-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x32x32x32 : Shape := ⟨4, ![32, 32, 32, 32]⟩
abbrev S1024x32 : Shape := ⟨2, ![1024, 32]⟩
abbrev S32x32x1024 : Shape := ⟨3, ![32, 32, 1024]⟩
abbrev S1x1 : Shape := ⟨2, ![1, 1]⟩
abbrev S1x32x1024 : Shape := ⟨3, ![1, 32, 1024]⟩
abbrev S32x1024 : Shape := ⟨2, ![32, 1024]⟩
abbrev S1024 : Shape := ⟨1, ![1024]⟩
abbrev S1024x1024 : Shape := ⟨2, ![1024, 1024]⟩
abbrev S1024x1 : Shape := ⟨2, ![1024, 1]⟩
abbrev S1x1024 : Shape := ⟨2, ![1, 1024]⟩
abbrev S1 : Shape := ⟨1, ![1]⟩
abbrev S1x1x1 : Shape := ⟨3, ![1, 1, 1]⟩
abbrev S_ : Shape := ⟨0, ![]⟩

abbrev nBuf : Space → Nat
  | .hbm => 12
  | .vmem => 6
  | .smem => 0
  | _ => 0

abbrev bufTy : (tb : Table) → Fin (tcTables nBuf tb) → BufTy
  | .hbm, ⟨0, _⟩ => ⟨S32x32x32x32, .f32⟩
  | .hbm, ⟨1, _⟩ => ⟨S1024x32, .f32⟩
  | .hbm, ⟨2, _⟩ => ⟨S32x32x1024, .f32⟩
  | .hbm, ⟨3, _⟩ => ⟨S32x32x1024, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32x32x32x32, .f32⟩
  | .local _ .vmem, ⟨0, _⟩ => ⟨S1x32x1024, .f32⟩
  | .local _ .vmem, ⟨1, _⟩ => ⟨S1x32x1024, .f32⟩
  | .local _ .vmem, ⟨2, _⟩ => ⟨S1024x32, .f32⟩
  | .local _ .vmem, ⟨3, _⟩ => ⟨S1x32x1024, .f32⟩
  | .local _ .vmem, ⟨4, _⟩ => ⟨S1x32x1024, .f32⟩
  | .local _ .vmem, ⟨5, _⟩ => ⟨S1x1, .f32⟩
  | _, _ => ⟨S32x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S32x32x32x32 : Shape := ⟨4, ![32, 32, 32, 32]⟩
abbrev S1024x32 : Shape := ⟨2, ![1024, 32]⟩
abbrev S32768x32 : Shape := ⟨2, ![32768, 32]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S32x1024 : Shape := ⟨2, ![32, 1024]⟩
abbrev S1 : Shape := ⟨1, ![1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S32x32x32x32, .f32⟩
  | .hbm, ⟨1, _⟩ => ⟨S1024x32, .f32⟩
  | .hbm, ⟨2, _⟩ => ⟨S32x32x32x32, .f32⟩
  | .hbm, ⟨3, _⟩ => ⟨S32768x32, .f32⟩
  | .hbm, ⟨4, _⟩ => ⟨S32768x32, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S1024x32, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .i32⟩
  | .hbm, ⟨22, _⟩ => ⟨S_, .f32⟩
  | .hbm, ⟨23, _⟩ => ⟨S_, .i32⟩
  | .hbm, ⟨24, _⟩ => ⟨S32768, .f32⟩
  | .hbm, ⟨25, _⟩ => ⟨S32768, .i32⟩
  | .hbm, ⟨26, _⟩ => ⟨S_, .i32⟩
  | .hbm, ⟨27, _⟩ => ⟨S32768, .i32⟩
  | .hbm, ⟨28, _⟩ => ⟨S32768, .i1⟩
  | .hbm, ⟨29, _⟩ => ⟨S_, .i32⟩
  | .hbm, ⟨30, _⟩ => ⟨S32768, .i32⟩
  | .hbm, ⟨31, _⟩ => ⟨S32768, .i32⟩
  | .hbm, ⟨32, _⟩ => ⟨S32768, .i32⟩
  | .hbm, ⟨33, _⟩ => ⟨S32768x1, .i32⟩
  | .hbm, ⟨34, _⟩ => ⟨S1, .i32⟩
  | .hbm, ⟨35, _⟩ => ⟨S_, .i32⟩
  | .hbm, ⟨36, _⟩ => ⟨S32768x1, .i32⟩
  | .hbm, ⟨37, _⟩ => ⟨S32768x1, .i1⟩
  | .hbm, ⟨38, _⟩ => ⟨S1x1, .i32⟩
  | .hbm, ⟨39, _⟩ => ⟨S32768x1, .i32⟩
  | .hbm, ⟨40, _⟩ => ⟨S32768x1, .i1⟩
  | .hbm, ⟨41, _⟩ => ⟨S32768x1, .i1⟩
  | .hbm, ⟨42, _⟩ => ⟨S_, .i1⟩
  | .hbm, ⟨43, _⟩ => ⟨S32768, .i1⟩
  | .hbm, ⟨44, _⟩ => ⟨S32768x32, .f32⟩
  | .hbm, ⟨45, _⟩ => ⟨S32768x32, .i1⟩
  | .hbm, ⟨46, _⟩ => ⟨S_, .f32⟩
  | .hbm, ⟨47, _⟩ => ⟨S32768x32, .f32⟩
  | .hbm, ⟨48, _⟩ => ⟨S32768x32, .f32⟩
  | .hbm, ⟨49, _⟩ => ⟨S32x32x32x32, .f32⟩
  | .hbm, ⟨50, _⟩ => ⟨S32x32x32x32, .f32⟩
  | .hbm, ⟨51, _⟩ => ⟨S32x32x32x32, .f32⟩
  | .hbm, ⟨52, _⟩ => ⟨S32x32x32x32, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S32x32x32x32, .f32⟩
  | .hbm, ⟨58, _⟩ => ⟨S32x32x32x32, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S32x32x32x32, .f32⟩
  | .hbm, ⟨67, _⟩ => ⟨S32x32x32x32, .f32⟩
  | _, _ => ⟨S32x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_2 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩

abbrev nD : Nat := 1
abbrev τ : Topo := Topo.v7x

variable {F : FTy → Type} [FloatOps F]
-- ==== Proof.KernelBlock.lean ====
module

public import proofs.«01_k».proof.Proof.Gen.KernelIdeal.Frame
public import Idealize.ShloMosaic.Lib.Pipeline.Value
public import Idealize.ShloMosaic.Lib.Tactic

/-! # What the kernel leaves in its two outputs at each grid point

At every point the first output's block is the straight-through value of the point's image block. The second output is a
running sum: set to zero at the first point, and at every point increased by the block's sum of squared differences. -/

@[expose] public section

noncomputable section

open Idealize.ShloMosaic Idealize.ShloMosaic.TcCoe Idealize.SL.Sem
open Idealize.ShloMosaic.Pipeline (Dat)

namespace Cert.VqKernel

open Cert.KernelIdeal Cert.KernelIdeal.Gen

variable {F : FTy → Type} [FloatOps F]

theorem zeros2 : (![0, 0] : Fin 2 → Nat) = fun _ => 0 := funext fun a => by fin_cases a <;> rfl

theorem zeros3 : (![0, 0, 0] : Fin 3 → Nat) = fun _ => 0 := funext fun a => by fin_cases a <;> rfl

section Cases

variable (c : Dev nD) (i : grid0.Coords)
  (a1 : Memref sig .tc .vmem S1x32x1024 .f32) (h1 : a1.IsWhole) (a2 : Memref sig .tc .vmem S1024x32 .f32) (h2 : a2.IsWhole)
  (a3 : Memref sig .tc .vmem S1x32x1024 .f32) (h3 : a3.IsWhole) (a4 : Memref sig .tc .vmem S1x1 .f32) (h4 : a4.IsWhole)
  (x : Vec F S1x32x1024 .f32) (w : Vec F S1024x32 .f32)

/-- At the first point the first output is the straight-through block. -/
theorem first_block (hc : cond0_0 i) : out0_A_2 c i a1 h1 a2 h2 a3 h3 a4 h4 hc x w = k0_pay5 x w := by
  unfold out0_A_2
  rw [View.read_writes_eq_canon _ _ _ (cover0_A_2 c i a1 h1 a2 h2 a3 h3 a4 h4 hc x w)]
  unfold kernelRun0_A
  dsimp only
  sl_unfold_words
  rw [View.canon_unit_zero zeros3]
  simp only [View.readAt_eq_ld, h1.read_unread, h2.read_unread, View.ld_unit_zero (S := S1x32x1024) zeros3,
    View.ld_unit_zero (S := S1024x32) zeros2]

/-- At a later point it is the same value of that point's block. -/
theorem next_block (hc : ¬cond0_0 i) (acc : Vec F S1x1 .f32) :
    out0_B_2 c i a1 h1 a2 h2 a3 h3 a4 h4 hc x w acc = k0_pay5 x w := by
  unfold out0_B_2
  rw [View.read_writes_eq_canon _ _ _ (cover0_B_2 c i a1 h1 a2 h2 a3 h3 a4 h4 hc x w acc)]
  unfold kernelRun0_B
  dsimp only
  sl_unfold_words
  rw [View.canon_unit_zero zeros3]
  simp only [View.readAt_eq_ld, h1.read_unread, h2.read_unread, View.ld_unit_zero (S := S1x32x1024) zeros3,
    View.ld_unit_zero (S := S1024x32) zeros2]

/-- At the first point the running sum is the block's sum added to zero. -/
theorem first_sum (hc : cond0_0 i) :
    out0_A_3 c i a1 h1 a2 h2 a3 h3 a4 h4 hc x w = k0_pay2 (k0_pay4 x w) k0_pay1 := by
  unfold out0_A_3
  rw [View.read_writes_eq_canon _ _ _ (cover0_A_3 c i a1 h1 a2 h2 a3 h3 a4 h4 hc x w)]
  unfold kernelRun0_A
  dsimp only
  sl_unfold_words
  rw [View.canon_cons_unit_zero (S := S1x1) zeros2, View.readCov_unit_zero (S := S1x1) _ zeros2]
  simp only [View.readAt_eq_ld, h1.read_unread, h2.read_unread, View.ld_unit_zero (S := S1x32x1024) zeros3,
    View.ld_unit_zero (S := S1024x32) zeros2]

/-- At a later point the block's sum is added to what the point before left. -/
theorem next_sum (hc : ¬cond0_0 i) (acc : Vec F S1x1 .f32) :
    out0_B_3 c i a1 h1 a2 h2 a3 h3 a4 h4 hc x w acc = k0_pay2 (k0_pay4 x w) acc := by
  unfold out0_B_3
  rw [View.read_writes_eq_canon _ _ _ (cover0_B_3 c i a1 h1 a2 h2 a3 h3 a4 h4 hc x w acc)]
  unfold kernelRun0_B
  dsimp only
  sl_unfold_words
  rw [View.canon_unit_zero zeros2]
  simp only [View.readAt_eq_ld, h1.read_unread, h2.read_unread, h4.read_unread,
    View.ld_unit_zero (S := S1x32x1024) zeros3, View.ld_unit_zero (S := S1024x32) zeros2,
    View.ld_unit_zero (S := S1x1) zeros2]

end Cases

variable (m : (ℓ : Loc nD τ sig) → Buf (Elt F) ℓ)

/-- The running sum after point `n`, in point order. -/
def runningSum (c : Dev nD) : (n : ℕ) → n < cfg0.N → Vec F S1x1 .f32
  | 0, h => k0_pay2 (k0_pay4 (iblk m c 0 ⟨0, h⟩) (iblk m c 1 ⟨0, h⟩)) k0_pay1
  | n + 1, h => k0_pay2 (k0_pay4 (iblk m c 0 ⟨n + 1, h⟩) (iblk m c 1 ⟨n + 1, h⟩)) (runningSum c n (Nat.lt_of_succ_lt h))

theorem outs_zero (c : Dev nD) (h : 0 < cfg0.N) :
    outsAt0 m c 0 h = (k0_pay5 (iblk m c 0 ⟨0, h⟩) (iblk m c 1 ⟨0, h⟩), runningSum m c 0 h) := by
  rw [outsAt0_A m c ⟨0, h⟩ rfl, first_block, first_sum]
  rfl

theorem outs_succ (c : Dev nD) (n : ℕ) (h : n + 1 < cfg0.N) (h' : n < cfg0.N)
    (ih : (outsAt0 m c n h').2 = runningSum m c n h') :
    outsAt0 m c (n + 1) h = (k0_pay5 (iblk m c 0 ⟨n + 1, h⟩) (iblk m c 1 ⟨n + 1, h⟩), runningSum m c (n + 1) h) := by
  have hN : cfg0.N = 32 := N_0
  have hB : ¬(⟨n + 1, h⟩ : Fin cfg0.N).val % 32 = 0 := by dsimp only; omega
  rw [outsAt0_B m c ⟨n + 1, h⟩ hB, next_block, next_sum]
  have ih' : (outsAt0 m c ((⟨n + 1, h⟩ : Fin cfg0.N).val - 1) (Nat.lt_of_le_of_lt (Nat.sub_le _ _) h)).2
    = runningSum m c n h' := ih
  rw [ih']
  rfl

/-- After each point the two outputs' buffers hold the point's straight-through block and the running sum. -/
theorem outs_eq (c : Dev nD) (n : ℕ) (h : n < cfg0.N) :
    outsAt0 m c n h = (k0_pay5 (iblk m c 0 ⟨n, h⟩) (iblk m c 1 ⟨n, h⟩), runningSum m c n h) := by
  induction n with
  | zero => exact outs_zero m c h
  | succ n ih => exact outs_succ m c n h (Nat.lt_of_succ_lt h) (congrArg Prod.snd (ih (Nat.lt_of_succ_lt h)))

end Cert.VqKernel

end
-- ==== Proof.KernelRun.lean ====
module

public import proofs.«01_k».proof.Proof.KernelBlock
public import Idealize.ShloMosaic.Lib.Pointwise.Index

/-! # What the kernel's two results hold when it ends

The first result's array is filled one image block per grid point. The second result's array holds the running sum of
the last point, and the operations after the grid scale it. -/

@[expose] public section

noncomputable section

open Idealize.ShloMosaic Idealize.ShloMosaic.TcCoe Idealize.SL.Sem
open Idealize.ShloMosaic.Pipeline (Dat)

namespace Cert.VqKernel

open Cert.KernelIdeal Cert.KernelIdeal.Gen

variable {F : FTy → Type} [FloatOps F]

/-- The images with the two pixel axes joined: image, channel, pixel. -/
def images (z : Vec F S32x32x32x32 .f32) : Vec F S32x32x1024 .f32 :=
  shapeCast S32x32x1024 z shapeCasts_S32x32x32x32_S32x32x1024

/-- Image `b` as a block of its own. -/
def image (z : Vec F S32x32x32x32 .f32) (b : Fin 32) : Vec F S1x32x1024 .f32 := fun j => images z (ix3 b (j 1) (j 2))

/-- The straight-through values of all images, channel by pixel. -/
def straight (z : Vec F S32x32x32x32 .f32) (w : Vec F S1024x32 .f32) : Vec F S32x32x1024 .f32 :=
  fun i => k0_pay5 (image z (i 0)) w (ix3 0 (i 1) (i 2))

/-- The sum of squared differences over the images up to the `n`-th, added up in image order from zero. -/
def tally (z : Vec F S32x32x32x32 .f32) (w : Vec F S1024x32 .f32) : (n : ℕ) → n < 32 → Vec F S1x1 .f32
  | 0, h => k0_pay2 (k0_pay4 (image z ⟨0, h⟩) w) k0_pay1
  | n + 1, h => k0_pay2 (k0_pay4 (image z ⟨n + 1, h⟩) w) (tally z w n (Nat.lt_of_succ_lt h))

/-- The mean of the squared differences, from their sum. -/
def mean (s : Vec F S1x1 .f32) : Vec F S_ .f32 :=
  Host.divf (shapeCast S_ s shapeCasts_S1x1_S_) (constant S_ .f32 0x49800000#32)

/-- The loss: the mean and a quarter of it. -/
def total (s : Vec F S1x1 .f32) : Vec F S_ .f32 :=
  addf (mean s) (mulf (constant S_ .f32 0x3E800000#32) (mean s))

variable (m : (ℓ : Loc nD τ sig) → Buf (Elt F) ℓ) (ρ : Dev nD → PrngReg)

theorem index_0 : ∀ t : Fin grid0.N, win0_0.index t 0 = t.val ∧ win0_0.index t 1 = 0 ∧ win0_0.index t 2 = 0 := by
  decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 ∧ win0_2.index t 2 = 0 := by
  decide +kernel

theorem index_3 : ∀ t : Fin grid0.N, win0_3.index t 0 = 0 ∧ win0_3.index t 1 = 0 := by decide +kernel

/-- Before the grid starts, the kernel's first array holds the images with joined pixel axes. -/
theorem V_images (c : Dev nD) : V m c main_v0 = images (m ((c.tc : Thread nD τ).loc main_arg0)) := by
  show StableHlo.after hostOps0 (fun b => m (c, b)) (Proc.devRef .tc main_v0) = _
  after_results_simp
  rfl

/-- The first array's block at point `t` is image `t`. -/
theorem block_image (c : Dev nD) (t : Fin cfg0.N) :
    (iblk m c 0 t : Vec F S1x32x1024 .f32)
      = image (m ((c.tc : Thread nD τ).loc main_arg0)) ⟨t.val, lt_of_lt_of_eq t.isLt N_0⟩ := by
  funext j
  unfold iblk image
  rw [View.read_apply, ← V_images m c]
  show V m c main_v0 _ = V m c main_v0 _
  congr 1
  funext a
  apply Fin.ext
  have h0 : (j 0).val < 1 := (j 0).isLt
  match a with
  | ⟨0, _⟩ => show win0_0.index t 0 * 1 + 1 * (j 0).val = t.val; rw [(index_0 t).1]; omega
  | ⟨1, _⟩ => show win0_0.index t 1 * 32 + 1 * (j 1).val = (j 1).val; rw [(index_0 t).2.1]; omega
  | ⟨2, _⟩ => show win0_0.index t 2 * 1024 + 1 * (j 2).val = (j 2).val; rw [(index_0 t).2.2]; omega

/-- The code book's block at every point is the whole code book. -/
theorem block_book (c : Dev nD) (t : Fin cfg0.N) :
    (iblk m c 1 t : Vec F S1024x32 .f32) = m ((c.tc : Thread nD τ).loc main_arg1) := by
  funext j
  unfold iblk
  rw [View.read_apply, ← V_main_arg1 m c]
  show V m c main_arg1 _ = V m c main_arg1 _
  congr 1
  funext a
  apply Fin.ext
  match a with
  | ⟨0, _⟩ => show win0_1.index t 0 * 1024 + 1 * (j 0).val = (j 0).val; rw [(index_1 t).1]; omega
  | ⟨1, _⟩ => show win0_1.index t 1 * 32 + 1 * (j 1).val = (j 1).val; rw [(index_1 t).2]; omega

/-- The running sum over the grid's points is the sum over the images. -/
theorem runningSum_eq (c : Dev nD) (n : ℕ) (h : n < cfg0.N) (h' : n < 32) :
    runningSum m c n h
      = tally (m ((c.tc : Thread nD τ).loc main_arg0)) (m ((c.tc : Thread nD τ).loc main_arg1)) n h' := by
  induction n with
  | zero =>
    unfold runningSum tally
    rw [block_image m c, block_book m c]
  | succ n ih =>
    unfold runningSum tally
    rw [block_image m c, block_book m c, ih (Nat.lt_of_succ_lt h) (Nat.lt_of_succ_lt h')]

/-- Each write-back of the first output writes its block of the straight-through values. -/
theorem flushed_straight (c : Dev nD) (t : Fin cfg0.N) :
    (dats m 0 c).flushed 2 t = ((cfg0.win 2).blk t).view.read (Elt F)
      (straight (m ((c.tc : Thread nD τ).loc main_arg0)) (m ((c.tc : Thread nD τ).loc main_arg1))) := by
  show (cfg0.win 2).cut (grid0.coords t) ((dats m 0 c).after 2 t) = _
  rw [after0_2, outs_eq, block_image m c, block_book m c]
  funext j
  rw [View.read_apply]
  show k0_pay5 _ _ _ = straight _ _ _
  unfold straight
  have h0 : (j 0).val < 1 := (j 0).isLt
  have hb : (((cfg0.win 2).blk t).view.emb j 0 : Fin 32) = ⟨t.val, lt_of_lt_of_eq t.isLt N_0⟩ :=
    Fin.ext (by show win0_2.index t 0 * 1 + 1 * (j 0).val = t.val; rw [(index_2 t).1]; omega)
  have hj : (j : S1x32x1024.Idx)
      = ix3 0 (((cfg0.win 2).blk t).view.emb j 1 : Fin 32) (((cfg0.win 2).blk t).view.emb j 2 : Fin 1024) := by
    funext a
    apply Fin.ext
    match a with
    | ⟨0, _⟩ => show (j 0).val = 0; omega
    | ⟨1, _⟩ => show (j 1).val = win0_2.index t 1 * 32 + 1 * (j 1).val; rw [(index_2 t).2.1]; omega
    | ⟨2, _⟩ => show (j 2).val = win0_2.index t 2 * 1024 + 1 * (j 2).val; rw [(index_2 t).2.2]; omega
  exact congr (congrArg (fun b => k0_pay5 (image _ b) _) hb.symm) hj

/-- The first output's array ends holding the straight-through values: every element lies in its image's block. -/
theorem final_straight (c : Dev nD) : (dats m 0 c).arrAt 2 cfg0.N
    = straight (m ((c.tc : Thread nD τ).loc main_arg0)) (m ((c.tc : Thread nD τ).loc main_arg1)) :=
  (dats m 0 c).arrAt_eq_of_cover 2 _ (fun t _ => flushed_straight m c t) fun i => by
    have h0 : (i 0 : Nat) < 32 := (i 0).isLt
    have h1 : (i 1 : Nat) < 32 := (i 1).isLt
    have h2 : (i 2 : Nat) < 1024 := (i 2).isLt
    refine ⟨⟨(i 0 : Nat), lt_of_lt_of_eq h0 N_0.symm⟩, flush0_2 _, ?_⟩
    show i ∈ ((View.whole main_v1_0).slice (win0_2.rect ⟨(i 0 : Nat), lt_of_lt_of_eq h0 N_0.symm⟩)).set
    rw [View.set_slice_whole, Rect.mem_set_unit]
    intro a
    match a with
    | ⟨0, _⟩ =>
      show win0_2.index _ 0 * 1 ≤ (i 0 : Nat) ∧ (i 0 : Nat) < win0_2.index _ 0 * 1 + 1
      rw [(index_2 _).1]
      exact ⟨le_of_eq (Nat.mul_one _), by rw [Nat.mul_one]; exact Nat.lt_succ_self _⟩
    | ⟨1, _⟩ =>
      show win0_2.index _ 1 * 32 ≤ (i 1 : Nat) ∧ (i 1 : Nat) < win0_2.index _ 1 * 32 + 32
      rw [(index_2 _).2.1]; omega
    | ⟨2, _⟩ =>
      show win0_2.index _ 2 * 1024 ≤ (i 2 : Nat) ∧ (i 2 : Nat) < win0_2.index _ 2 * 1024 + 1024
      rw [(index_2 _).2.2]; omega

/-- The last grid point. -/
abbrev lastPoint : Fin cfg0.N := ⟨31, by rw [show cfg0.N = 32 from N_0]; decide⟩

/-- The one write-back of the second output writes the sum over all images. -/
theorem flushed_tally (c : Dev nD) (t : Fin cfg0.N) (hf : (cfg0.win 3).flush t = true) :
    (dats m 0 c).flushed 3 t = ((cfg0.win 3).blk t).view.read (Elt F)
      (tally (m ((c.tc : Thread nD τ).loc main_arg0)) (m ((c.tc : Thread nD τ).loc main_arg1)) 31 (by decide)) := by
  have hN : cfg0.N = 32 := N_0
  have h31 : t.val = 31 := by have := (flush0_3 t).mp hf; have := t.isLt; omega
  obtain rfl : t = lastPoint := Fin.ext h31
  show (cfg0.win 3).cut (grid0.coords lastPoint) ((dats m 0 c).after 3 lastPoint) = _
  rw [after0_3, outs_eq]
  show runningSum m c 31 _ = _
  rw [runningSum_eq m c 31 _ (by decide)]
  have hz : (fun a => win0_3.index lastPoint a * main_v1_1.ty.shape.size a) = fun _ => 0 :=
    funext fun a => by fin_cases a <;> decide +kernel
  exact (Memref.read_access_unit_zero (Elt F) main_v1_1 hz (fun a => by rw [congrFun hz a]; simp) _).symm

/-- The second output's array ends holding the sum over all images. -/
theorem final_tally (c : Dev nD) : (dats m 0 c).arrAt 3 cfg0.N
    = tally (m ((c.tc : Thread nD τ).loc main_arg0)) (m ((c.tc : Thread nD τ).loc main_arg1)) 31 (by decide) :=
  (dats m 0 c).arrAt_eq_of_cover 3 _ (flushed_tally m c) fun i =>
    ⟨lastPoint, (flush0_3 lastPoint).mpr rfl, by
      have h0 : (i 0 : Nat) < 1 := (i 0).isLt
      have h1 : (i 1 : Nat) < 1 := (i 1).isLt
      show i ∈ ((View.whole main_v1_1).slice (win0_3.rect lastPoint)).set
      rw [View.set_slice_whole, Rect.mem_set_unit]
      intro a
      match a with
      | ⟨0, _⟩ =>
        show win0_3.index lastPoint 0 * 1 ≤ (i 0 : Nat) ∧ (i 0 : Nat) < win0_3.index lastPoint 0 * 1 + 1
        rw [(index_3 _).1]; omega
      | ⟨1, _⟩ =>
        show win0_3.index lastPoint 1 * 1 ≤ (i 1 : Nat) ∧ (i 1 : Nat) < win0_3.index lastPoint 1 * 1 + 1
        rw [(index_3 _).2]; omega⟩

/-- What the kernel's arrays hold when the grid has finished. -/
abbrev ended (c : Dev nD) := Pipeline.withArrays (cfgs 0).spec c (V0 m c) fun w => (dats m 0 c).arrAt w (cfgs 0).N

theorem ended_straight (c : Dev nD) : ended m c (Proc.devRef .tc main_v1_0)
    = straight (m ((c.tc : Thread nD τ).loc main_arg0)) (m ((c.tc : Thread nD τ).loc main_arg1)) :=
  (Pipeline.withArrays_arr (cfgs 0).spec (by decide) c (V0 m c) _ 2).trans (final_straight m c)

theorem ended_tally (c : Dev nD) : ended m c (Proc.devRef .tc main_v1_1)
    = tally (m ((c.tc : Thread nD τ).loc main_arg0)) (m ((c.tc : Thread nD τ).loc main_arg1)) 31 (by decide) :=
  (Pipeline.withArrays_arr (cfgs 0).spec (by decide) c (V0 m c) _ 3).trans (final_tally m c)

/-- The operations after the grid leave the straight-through values, in the images' own shape, in the first result. -/
theorem tail_straight (c : Dev nD) : Pipeline.afterTail₀ cfgs (dats m) 0 (V0 m) [hostOps1] c main_v6
    = shapeCast S32x32x32x32
        (straight (m ((c.tc : Thread nD τ).loc main_arg0)) (m ((c.tc : Thread nD τ).loc main_arg1)))
        shapeCasts_S32x32x1024_S32x32x32x32 := by
  rw [← ended_straight m c]
  unfold Pipeline.afterTail₀ hostOps1
  after_results_simp
  rfl

/-- The operations after the grid leave the loss in the second result. -/
theorem tail_total (c : Dev nD) : Pipeline.afterTail₀ cfgs (dats m) 0 (V0 m) [hostOps1] c main_v5
    = total (tally (m ((c.tc : Thread nD τ).loc main_arg0)) (m ((c.tc : Thread nD τ).loc main_arg1)) 31 (by decide)) := by
  rw [← ended_tally m c]
  unfold Pipeline.afterTail₀ hostOps1
  after_results_simp
  rfl

/-- Every execution of the kernel ends with its two results at these values, and its arguments unchanged. -/
theorem run : θ_run defs (onTc (τ := τ) (main (F := F))) ⟨m, fun _ => 0, ρ⟩ fun r => ∀ c : Dev nD,
    r.2.mem ((c.tc : Thread nD τ).loc main_v6)
      = shapeCast S32x32x32x32
          (straight (m ((c.tc : Thread nD τ).loc main_arg0)) (m ((c.tc : Thread nD τ).loc main_arg1)))
          shapeCasts_S32x32x1024_S32x32x32x32
    ∧ r.2.mem ((c.tc : Thread nD τ).loc main_v5)
      = total (tally (m ((c.tc : Thread nD τ).loc main_arg0)) (m ((c.tc : Thread nD τ).loc main_arg1)) 31 (by decide))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (tail_straight m c),
      ((h c).2 main_v5 (Pipeline.mem_restRefs_of main_v5 (by decide) (by decide))).trans (tail_total m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.VqKernel

end
-- ==== Proof.Nearest.lean ====
module

public import Idealize.ShloMosaic.Lib.Pointwise

/-! # The nearest entry of a code book

The squared distance of a vector to each entry of a code book, the first entry at the least distance, and the three ways
of finding it that the programs use: the least value, the least position holding it, and a fold over value and position
pairs. Everything is over the extended reals. -/

@[expose] public section

noncomputable section

open Idealize.ShloMosaic

namespace Cert.Vq

/-- The squared distance of `x` to entry `k` of the code book `w`, expanded: |x|² + |w k|² − 2 x·(w k). -/
def sqDist (x : Fin 32 → EReal) (w : Fin 1024 → Fin 32 → EReal) (k : Fin 1024) : EReal :=
  ∑ c, x c * x c + ∑ c, w k c * w k c - Ideal.ofBits .f32 0x40000000#32 * ∑ c, x c * w k c

/-- Position `i` holds the least value of `d`, and no earlier position does. -/
def FirstMin (d : Fin 1024 → EReal) (i : Fin 1024) : Prop := (∀ k, d i ≤ d k) ∧ ∀ k, d k ≤ d i → i ≤ k

theorem exists_firstMin (d : Fin 1024 → EReal) : ∃ i, FirstMin d i := by
  obtain ⟨i, hi⟩ := Finite.exists_min fun k => toLex (d k, k)
  refine ⟨i, fun k => ?_, fun k hk => ?_⟩
  · rcases (Prod.Lex.le_iff.mp (hi k)) with h | h
    · exact le_of_lt h
    · exact le_of_eq h.1
  · rcases (Prod.Lex.le_iff.mp (hi k)) with h | h
    · exact absurd h (not_lt.mpr hk)
    · exact h.2

/-- The first position of the least value. -/
def first (d : Fin 1024 → EReal) : Fin 1024 := (exists_firstMin d).choose

theorem first_spec (d : Fin 1024 → EReal) : FirstMin d (first d) := (exists_firstMin d).choose_spec

/-- There is only one such position. -/
theorem FirstMin.eq_first {d : Fin 1024 → EReal} {i : Fin 1024} (h : FirstMin d i) : i = first d :=
  le_antisymm (h.2 _ ((first_spec d).1 i)) ((first_spec d).2 _ (h.1 _))

/-- Images: image, channel, row, column. -/
abbrev Images := (⟨4, ![32, 32, 32, 32]⟩ : Shape).Idx → EReal

/-- A code book: entry, channel. -/
abbrev Book := (⟨2, ![1024, 32]⟩ : Shape).Idx → EReal

/-- The code book entry nearest to a pixel of an image. -/
def nearest (z : Images) (w : Book) (b h v : Fin 32) : Fin 1024 :=
  first (sqDist (fun c => z (ix4 b c h v)) fun k c => w (ix2 k c))

/-- A pixel's nearest code book entry less the pixel, at one channel. -/
def gap (z : Images) (w : Book) (b c h v : Fin 32) : EReal := w (ix2 (nearest z w b h v) c) - z (ix4 b c h v)

/-- The sum of the squared gaps over everything. -/
def sumSq (z : Images) (w : Book) : EReal := ∑ b, ∑ c, ∑ h, ∑ v, gap z w b c h v * gap z w b c h v

theorem ofBits_top : Ideal.ofBits .f32 0x7F800000#32 = ⊤ := by simp [Ideal.ofBits, Ideal.ieee]

/-! ## The least value and its least position -/

/-- The minimum of all values, started at the top, is the value at the first position of the least. -/
theorem fold_min (d : Fin 1024 → EReal) : Finset.univ.fold min ⊤ d = d (first d) :=
  le_antisymm (Finset.fold_min_le _ |>.mpr (.inr ⟨first d, Finset.mem_univ _, le_rfl⟩))
    (Finset.le_fold_min _ |>.mpr ⟨le_top, fun k _ => (first_spec d).1 k⟩)

theorem toInt_position (k : Fin 1024) : (BitVec.ofNat 32 k.val).toInt = k.val := by
  have := k.isLt
  have e : (BitVec.ofNat 32 k.val).toNat = k.val := by rw [BitVec.toNat_ofNat]; omega
  rw [BitVec.toInt_eq_toNat_of_lt (by rw [e]; omega), e]

theorem toInt_least (a b : BitVec 32) : (IntOp.minsi a b).toInt = min a.toInt b.toInt := by
  unfold IntOp.minsi
  by_cases h : a.slt b
  · rw [if_pos h, min_eq_left (le_of_lt (by rwa [BitVec.slt_iff_toInt_lt] at h))]
  · rw [if_neg h, min_eq_right (not_lt.mp (by rwa [BitVec.slt_iff_toInt_lt] at h))]

/-- The least signed word among the positions of the least value (1024 standing in elsewhere) is the first position. -/
theorem fold_position (d : Fin 1024 → EReal) (dec : ∀ k, Decidable (d k = d (first d))) :
    Finset.univ.fold IntOp.minsi 2147483647#32
      (fun k : Fin 1024 => @ite _ (d k = d (first d)) (dec k) (BitVec.ofNat 32 k.val) 1024#32)
      = BitVec.ofNat 32 (first d).val := by
  apply BitVec.eq_of_toInt_eq
  rw [← Finset.fold_hom (op' := min) (m := BitVec.toInt) toInt_least, toInt_position]
  apply le_antisymm
  · refine (Finset.fold_min_le _).mpr (.inr ⟨first d, Finset.mem_univ _, ?_⟩)
    rw [if_pos rfl, toInt_position]
  · refine (Finset.le_fold_min _).mpr ⟨?_, fun k _ => ?_⟩
    · have := (first d).isLt
      have e : (2147483647#32).toInt = 2147483647 := by decide
      omega
    · split
      · rename_i h
        rw [toInt_position]
        exact_mod_cast (first_spec d).2 k (le_of_eq h)
      · have := (first d).isLt
        have e : (1024#32).toInt = 1024 := by decide
        omega

/-- A row of zeros with a single one picks that entry out of a weighted sum. -/
theorem pick (i : Fin 1024) (w : Fin 1024 → EReal) :
    ∑ k : Fin 1024, FloatOps.sitofp (F := Ideal) .f32
      (BitVec.setWidth 32 (IntOp.cmpi .eq (BitVec.ofNat 32 k.val) (BitVec.ofNat 32 i.val))) * w k = w i := by
  have one : ∀ b : BitVec 32, FloatOps.sitofp (F := Ideal) .f32 b = ((b.toInt : ℝ) : EReal) := fun _ => rfl
  rw [Finset.sum_eq_single i]
  · have e : IntOp.cmpi .eq (BitVec.ofNat 32 i.val) (BitVec.ofNat 32 i.val) = 1#1 := by
      show BitVec.ofBool (_ == _) = _
      rw [beq_self_eq_true]; rfl
    have t : (BitVec.setWidth 32 1#1).toInt = 1 := by decide
    rw [e, one, t]
    norm_num
  · intro k _ hk
    have ne : BitVec.ofNat 32 k.val ≠ BitVec.ofNat 32 i.val := fun h => hk (Fin.ext (by
      have := congrArg BitVec.toInt h
      rw [toInt_position, toInt_position] at this
      exact_mod_cast this))
    have e : IntOp.cmpi .eq (BitVec.ofNat 32 k.val) (BitVec.ofNat 32 i.val) = 0#1 := by
      show BitVec.ofBool (_ == _) = _
      rw [beq_eq_false_iff_ne.mpr ne]; rfl
    have t : (BitVec.setWidth 32 0#1).toInt = 0 := by decide
    rw [e, one, t]
    norm_num
  · exact fun h => absurd (Finset.mem_univ _) h

/-! ## The fold over value and position pairs -/

/-- A pair's place in the order by value, then by signed position. -/
def key (p : EReal × BitVec 32) : EReal ×ₗ ℤ := toLex (p.1, p.2.toInt)

/-- Keeping the lesser of two pairs along a list ends at the start or a member, and at the least of them all. -/
theorem foldl_least (f : EReal × BitVec 32 → EReal × BitVec 32 → EReal × BitVec 32)
    (hf : ∀ a b, f a b = if key a < key b then a else b) (l : List (EReal × BitVec 32)) :
    ∀ s, (l.foldl f s = s ∨ l.foldl f s ∈ l) ∧ key (l.foldl f s) ≤ key s ∧ ∀ p ∈ l, key (l.foldl f s) ≤ key p := by
  induction l with
  | nil => exact fun s => ⟨.inl rfl, le_rfl, fun _ h => nomatch h⟩
  | cons q l ih =>
    intro s
    rw [List.foldl_cons]
    obtain ⟨hm, hs, hl⟩ := ih (f s q)
    have hle : key (f s q) ≤ key s ∧ key (f s q) ≤ key q ∧ (f s q = s ∨ f s q = q) := by
      rw [hf]
      split
      · rename_i h; exact ⟨le_rfl, le_of_lt h, .inl rfl⟩
      · rename_i h; exact ⟨not_lt.mp h, le_rfl, .inr rfl⟩
    refine ⟨?_, hs.trans hle.1, ?_⟩
    · rcases hm with h | h
      · rcases hle.2.2 with h' | h'
        · exact .inl (h.trans h')
        · exact .inr (by rw [h, h']; exact List.mem_cons_self ..)
      · exact .inr (List.mem_cons_of_mem _ h)
    · intro p hp
      rcases List.mem_cons.mp hp with rfl | hp
      · exact hs.trans hle.2.1
      · exact hl p hp

/-- Started at the top value and position 0, over the pairs of all positions in any order, the fold ends at the first
    position of the least value. -/
theorem foldl_first (f : EReal × BitVec 32 → EReal × BitVec 32 → EReal × BitVec 32)
    (hf : ∀ a b, f a b = if key a < key b then a else b) (d : Fin 1024 → EReal) (l : List (EReal × BitVec 32))
    (hl : ∀ p, p ∈ l ↔ ∃ k : Fin 1024, p = (d k, BitVec.ofNat 32 k.val)) :
    (l.foldl f (⊤, 0#32)).2 = BitVec.ofNat 32 (first d).val := by
  obtain ⟨hm, -, hle⟩ := foldl_least f hf l (⊤, 0#32)
  have hk : ∀ k : Fin 1024, key (l.foldl f (⊤, 0#32)) ≤ key (d k, BitVec.ofNat 32 k.val) :=
    fun k => hle _ ((hl _).mpr ⟨k, rfl⟩)
  have hi : ∃ i : Fin 1024, l.foldl f (⊤, 0#32) = (d i, BitVec.ofNat 32 i.val) := by
    rcases hm with h | h
    · refine ⟨0, ?_⟩
      have h0 := hk 0
      rw [h] at h0 ⊢
      rcases Prod.Lex.le_iff.mp h0 with h1 | h1
      · exact absurd h1 (not_lt.mpr le_top)
      · exact Prod.ext h1.1 rfl
    · exact (hl _).mp h
  obtain ⟨i, hi⟩ := hi
  rw [hi] at hk ⊢
  have : FirstMin d i := by
    refine ⟨fun k => ?_, fun k hki => ?_⟩
    · rcases Prod.Lex.le_iff.mp (hk k) with h | h
      · exact le_of_lt h
      · exact le_of_eq h.1
    · rcases Prod.Lex.le_iff.mp (hk k) with h | h
      · exact absurd h (not_lt.mpr hki)
      · have h2 : (BitVec.ofNat 32 i.val).toInt ≤ (BitVec.ofNat 32 k.val).toInt := h.2
        rw [toInt_position, toInt_position] at h2
        exact_mod_cast h2
  rw [this.eq_first]

end Cert.Vq

end
-- ==== Proof.KernelValue.lean ====
module

public import proofs.«01_k».proof.Proof.KernelRun
public import proofs.«01_k».proof.Proof.Nearest

/-! # The kernel's results over the extended reals -/

@[expose] public section

set_option maxRecDepth 16384

noncomputable section

open Idealize.ShloMosaic

namespace Cert.VqKernel

open Cert.KernelIdeal Cert.KernelIdeal.Gen Cert.Vq

/-- A block's differences: each pixel's nearest code book entry less the pixel. -/
theorem difference_at (x : Vec Ideal S1x32x1024 .f32) (w : Vec Ideal S1024x32 .f32) (c : Fin 32) (p : Fin 1024) :
    k0_pay4 (F := Ideal) x w (ix2 c p)
      = w (ix2 (first (sqDist (fun c => x (ix3 0 c p)) fun k c => w (ix2 k c))) c) - x (ix3 0 c p) := by
  pointwise [k0_pay4, k0_pay3]
  rw [ofBits_top]
  have least := fold_min (sqDist (fun c => x (ix3 0 c p)) fun k c => w (ix2 k c))
  unfold sqDist at least ⊢
  rw [least]
  rw [fold_position]
  rw [pick]

/-- A block's straight-through values. -/
theorem through_at (x : Vec Ideal S1x32x1024 .f32) (w : Vec Ideal S1024x32 .f32) (c : Fin 32) (p : Fin 1024) :
    k0_pay5 (F := Ideal) x w (ix3 0 c p) = x (ix3 0 c p) + k0_pay4 (F := Ideal) x w (ix2 c p) := by
  pointwise [k0_pay5, k0_pay3]

/-- One step of the running sum. -/
theorem step_at (d : Vec Ideal S32x1024 .f32) (s : Vec Ideal S1x1 .f32) :
    k0_pay2 (F := Ideal) d s (ix2 0 0) = s (ix2 0 0) + ∑ c : Fin 32, ∑ p : Fin 1024, d (ix2 c p) * d (ix2 c p) := by
  pointwise [k0_pay2]

theorem start_at : k0_pay1 (F := Ideal) (ix2 0 0) = 0 := by
  pointwise [k0_pay1]

theorem image_at (z : Vec Ideal S32x32x32x32 .f32) (b c : Fin 32) (p : Fin 1024) :
    image (F := Ideal) z b (ix3 0 c p) = z (ix4 b c ⟨p.val / 32, by omega⟩ ⟨p.val % 32, by omega⟩) := by
  pointwise [image, images]

/-- Image `b`'s differences are its gaps. -/
theorem gap_at (z : Vec Ideal S32x32x32x32 .f32) (w : Vec Ideal S1024x32 .f32) (b c : Fin 32) (p : Fin 1024) :
    k0_pay4 (F := Ideal) (image (F := Ideal) z b) w (ix2 c p)
      = gap z w b c ⟨p.val / 32, by omega⟩ ⟨p.val % 32, by omega⟩ := by
  rw [difference_at]
  simp only [image_at]
  rfl

/-- A sum over the joined pixel axis is the sum over rows and columns. -/
theorem sum_pixels (f : Fin 32 → Fin 32 → EReal) :
    ∑ p : Fin 1024, f ⟨p.val / 32, by omega⟩ ⟨p.val % 32, by omega⟩ = ∑ h, ∑ v, f h v := by
  rw [← Fintype.sum_prod_type' f]
  exact Fintype.sum_equiv (finProdFinEquiv (m := 32) (n := 32)).symm _ _ fun _ => rfl

/-- The sum up to an image is the sum of the squared gaps of the images up to it. -/
theorem tally_at (z : Vec Ideal S32x32x32x32 .f32) (w : Vec Ideal S1024x32 .f32) (n : ℕ) (hn : n < 32) :
    tally (F := Ideal) z w n hn (ix2 0 0)
      = ∑ b : Fin (n + 1), ∑ c, ∑ h, ∑ v, gap z w ⟨b.val, by omega⟩ c h v * gap z w ⟨b.val, by omega⟩ c h v := by
  induction n with
  | zero =>
    unfold tally
    rw [step_at, start_at, zero_add, Fin.sum_univ_one]
    simp only [gap_at]
    exact Finset.sum_congr rfl fun c _ => sum_pixels fun h v => gap z w ⟨0, hn⟩ c h v * gap z w ⟨0, hn⟩ c h v
  | succ n ih =>
    unfold tally
    rw [step_at, ih, Fin.sum_univ_castSucc (n := n + 1)]
    simp only [gap_at]
    exact congrArg _ (Finset.sum_congr rfl fun c _ =>
      sum_pixels fun h v => gap z w ⟨n + 1, hn⟩ c h v * gap z w ⟨n + 1, hn⟩ c h v)

/-- After the last image it is the sum over everything. -/
theorem tally_all (z : Vec Ideal S32x32x32x32 .f32) (w : Vec Ideal S1024x32 .f32) (h : 31 < 32) :
    tally (F := Ideal) z w 31 h (ix2 0 0) = sumSq z w := tally_at z w 31 h

/-- The first result at an index. -/
theorem straight_at (z : Vec Ideal S32x32x32x32 .f32) (w : Vec Ideal S1024x32 .f32) (b c h v : Fin 32) :
    shapeCast S32x32x32x32 (straight (F := Ideal) z w) shapeCasts_S32x32x1024_S32x32x32x32 (ix4 b c h v)
      = z (ix4 b c h v) + gap z w b c h v := by
  pointwise [straight]
  rw [through_at, gap_at, image_at]
  have e0 : (⟨(h.val * 32 + v.val) / 32, by omega⟩ : Fin 32) = h := Fin.ext (by dsimp only; omega)
  have e1 : (⟨(h.val * 32 + v.val) % 32, by omega⟩ : Fin 32) = v := Fin.ext (by dsimp only; omega)
  simp only [e0, e1]

/-- The mean at its only index. -/
theorem mean_at (s : Vec Ideal S1x1 .f32) :
    mean (F := Ideal) s ix0 = Ideal.div (s (ix2 0 0)) (Ideal.ofBits .f32 0x49800000#32) := by
  pointwise [mean]

/-- The second result at its only index. -/
theorem total_at (s : Vec Ideal S1x1 .f32) :
    total (F := Ideal) s ix0
      = Ideal.div (s (ix2 0 0)) (Ideal.ofBits .f32 0x49800000#32)
        + Ideal.ofBits .f32 0x3E800000#32 * Ideal.div (s (ix2 0 0)) (Ideal.ofBits .f32 0x49800000#32) := by
  rw [← mean_at]
  pointwise [total]

end Cert.VqKernel

end
-- ==== Proof.RefRun.lean ====
module

public import proofs.«01_k».proof.Defs
public import proofs.«01_k».proof.Proof.Gen.ReferenceIdeal
public import Idealize.ShloMosaic.Lib.StableHlo.Run
public import Idealize.ShloMosaic.Lib.Pipeline.Regions
public import Idealize.ShloMosaic.Adequacy
public import Idealize.ShloMosaic.Init

/-! # What the reference program computes

The reference is a straight line of array operations, the argmin and the table lookup among them. This module names the
intermediate arrays as functions of the two arguments and states the run: every execution ends with the two results
holding those functions' values. -/

@[expose] public section

noncomputable section

namespace Cert.VqReference

open Idealize.ShloMosaic Idealize.ShloMosaic.StableHlo Idealize.SL.Sem Cert.ReferenceIdeal Cert.ReferenceIdeal.Gen

variable {F : FTy → Type} [FloatOps F]

/-! ## The intermediate arrays -/

/-- The image's pixels as 32768 rows of 32 channels. -/
def rows (z : Vec F S32x32x32x32 .f32) : Vec F S32768x32 .f32 :=
  shapeCast S32768x32 (transpose S32x32x32x32 [0, 2, 3, 1] z transposes_S32x32x32x32_S32x32x32x32_0_2_3_1)
    shapeCasts_S32x32x32x32_S32768x32

/-- Each row's sum of squares. -/
def rowSq (x : Vec F S32768x32 .f32) : Vec F S32768 .f32 :=
  Host.reduceAdd (mulf x x) (constant S_ .f32 0x00000000#32) reducesTo_S32768x32_S32768_d1 h_S_

/-- Each codebook entry's sum of squares. -/
def bookSq (w : Vec F S1024x32 .f32) : Vec F S1024 .f32 :=
  Host.reduceAdd (mulf w w) (constant S_ .f32 0x00000000#32) reducesTo_S1024x32_S1024_d1 h_S_

/-- The squared distance of every row to every codebook entry, expanded. -/
def dists (x : Vec F S32768x32 .f32) (w : Vec F S1024x32 .f32) : Vec F S32768x1024 .f32 :=
  subf
    (addf
      (broadcastInDim S32768x1024 ![0, 1] bcast_S32768x1_S32768x1024_0_1
        (broadcastInDim S32768x1 ![0] bcast_S32768_S32768x1_0 (rowSq x)))
      (broadcastInDim S32768x1024 ![0, 1] bcast_S1x1024_S32768x1024_0_1
        (broadcastInDim S1x1024 ![1] bcast_S1024_S1x1024_1 (bookSq w))))
    (mulf (broadcastInDim S32768x1024 ![] bcast_S_S32768x1024 (constant S_ .f32 0x40000000#32))
      (Host.dotGeneral dot_S32768x32_S32x1024_S32768x1024_1_0_0_1_n_n none x
        (transpose S32x1024 [1, 0] w transposes_S1024x32_S32x1024_1_0)))

/-- The position of the least distance in each row. -/
def argmins (d : Vec F S32768x1024 .f32) : Vec F S32768 .i32 := fun j =>
  (Host.argReduce reducer_argmin_f32_i32 d (iotaInDim S32768x1024 32 1) (constant S_ .f32 0x7F800000#32)
    (constantI S_ 32 0#32) reducesTo_S32768x1024_S32768_d1 h_S_ j).2

/-- The positions with a negative one counted from the end, as a column. -/
def wrapped (i : Vec F S32768 .i32) : Vec F S32768x1 .i32 :=
  broadcastInDim S32768x1 ![0] bcast_S32768_S32768x1_0
    (select (cmpi .slt i (broadcastInDim S32768 ![] bcast_S_S32768 (constantI S_ 32 0#32)))
      (addi i (broadcastInDim S32768 ![] bcast_S_S32768 (constantI S_ 32 1024#32))) i)

/-- Which positions lie in the codebook. -/
def inBook (i : Vec F S32768x1 .i32) : Vec F S32768 .i1 :=
  Host.reduce IntOp.andi
    (andi (cmpi .sge i (broadcastInDim S32768x1 ![] bcast_S_S32768x1 (constantI S_ 32 0#32)))
      (cmpi .sle i (broadcastInDim S32768x1 ![0, 1] bcast_S1x1_S32768x1_0_1
        (broadcastInDim S1x1 ![1] bcast_S1_S1x1_1 (constantI S1 32 1023#32)))))
    (constantI S_ 1 1#1) reducesTo_S32768x1_S32768_d1 h_S_

/-- The codebook's rows at the positions. -/
def taken (w : Vec F S1024x32 .f32) (i : Vec F S32768x1 .i32) : Vec F S32768x32 .f32 :=
  select (broadcastInDim S32768x32 ![0] bcast_S32768_S32768x32_0 (inBook (F := F) i))
    (Host.gather gather_S1024x32_S32768x1_S32768x32_1_0_n_n_0_1_132 w i)
    (broadcastInDim S32768x32 ![] bcast_S_S32768x32 (constant S_ .f32 0x7FC00000#32))

/-- The quantised image: each pixel's nearest codebook entry, channels moved back to their place. -/
def quantised (z : Vec F S32x32x32x32 .f32) (w : Vec F S1024x32 .f32) : Vec F S32x32x32x32 .f32 :=
  transpose S32x32x32x32 [0, 3, 1, 2]
    (shapeCast S32x32x32x32 (taken w (wrapped (F := F) (argmins (dists (rows z) w)))) shapeCasts_S32768x32_S32x32x32x32)
    transposes_S32x32x32x32_S32x32x32x32_0_3_1_2

/-- The mean of the squared differences of two images. -/
def meanSq (q z : Vec F S32x32x32x32 .f32) : Vec F S_ .f32 :=
  Host.divf
    (Host.reduceAdd (mulf (subf q z) (subf q z)) (constant S_ .f32 0x00000000#32) reducesTo_S32x32x32x32_S_d0_1_2_3 h_S_)
    (constant S_ .f32 0x49800000#32)

/-- The second result: the loss, of a quantised image and the image. -/
def loss (q z : Vec F S32x32x32x32 .f32) : Vec F S_ .f32 :=
  addf (meanSq q z) (mulf (constant S_ .f32 0x3E800000#32) (meanSq q z))

/-- The first result: the image plus its difference to the quantised image. -/
def passed (q z : Vec F S32x32x32x32 .f32) : Vec F S32x32x32x32 .f32 := addf z (subf q z)

/-! ## The run -/

/-- The program's operations in order, the two functions it calls written out in place. -/
abbrev ops : List (HloOp τ sig (Elt F)) :=
  [ unary main_arg0 main_v0 (transpose S32x32x32x32 [0, 2, 3, 1] · transposes_S32x32x32x32_S32x32x32x32_0_2_3_1),
    reshape main_v0 main_v1 rfl shapeCasts_S32x32x32x32_S32768x32,
    binary main_v1 main_v1 main_v2 mulf,
    nullary main_cst (constant S_ .f32 0x00000000#32),
    binary main_v2 main_cst main_v3 (fun x v => Host.reduceAdd x v reducesTo_S32768x32_S32768_d1 h_S_),
    unary main_v3 main_v4 (broadcastInDim S32768x1 ![0] bcast_S32768_S32768x1_0),
    binary main_arg1 main_arg1 main_v5 mulf,
    nullary main_cst_0 (constant S_ .f32 0x00000000#32),
    binary main_v5 main_cst_0 main_v6 (fun x v => Host.reduceAdd x v reducesTo_S1024x32_S1024_d1 h_S_),
    unary main_v6 main_v7 (broadcastInDim S1x1024 ![1] bcast_S1024_S1x1024_1),
    unary main_v4 main_v8 (broadcastInDim S32768x1024 ![0, 1] bcast_S32768x1_S32768x1024_0_1),
    unary main_v7 main_v9 (broadcastInDim S32768x1024 ![0, 1] bcast_S1x1024_S32768x1024_0_1),
    binary main_v8 main_v9 main_v10 addf,
    unary main_arg1 main_v11 (transpose S32x1024 [1, 0] · transposes_S1024x32_S32x1024_1_0),
    binary main_v1 main_v11 main_v12 (fun l r => Host.dotGeneral dot_S32768x32_S32x1024_S32768x1024_1_0_0_1_n_n none l r),
    nullary main_cst_1 (constant S_ .f32 0x40000000#32),
    unary main_cst_1 main_v13 (broadcastInDim S32768x1024 ![] bcast_S_S32768x1024),
    binary main_v13 main_v12 main_v14 mulf,
    binary main_v10 main_v14 main_v15 subf,
    nullary main_call0_v0 (iotaInDim S32768x1024 32 1),
    nullary main_call0_cst (constant S_ .f32 0x7F800000#32),
    nullary main_call0_c (constantI S_ 32 0#32),
    quaternary main_v15 main_call0_v0 main_call0_cst main_call0_c main_call0_v1_0 (fun x y u v j => (Host.argReduce reducer_argmin_f32_i32 x y u v reducesTo_S32768x1024_S32768_d1 h_S_ j).1),
    quaternary main_v15 main_call0_v0 main_call0_cst main_call0_c main_v16 (fun x y u v j => (Host.argReduce reducer_argmin_f32_i32 x y u v reducesTo_S32768x1024_S32768_d1 h_S_ j).2),
    nullary main_call1_c (constantI S_ 32 0#32),
    unary main_call1_c main_call1_v0 (broadcastInDim S32768 ![] bcast_S_S32768),
    binary main_v16 main_call1_v0 main_call1_v1 (cmpi .slt),
    nullary main_call1_c_0 (constantI S_ 32 1024#32),
    unary main_call1_c_0 main_call1_v2 (broadcastInDim S32768 ![] bcast_S_S32768),
    binary main_v16 main_call1_v2 main_call1_v3 addi,
    ternary main_call1_v1 main_call1_v3 main_v16 main_call1_v4 select,
    unary main_call1_v4 main_call1_v5 (broadcastInDim S32768x1 ![0] bcast_S32768_S32768x1_0),
    nullary main_call1_c_1 (constantI S1 32 1023#32),
    nullary main_call1_c_2 (constantI S_ 32 0#32),
    unary main_call1_c_2 main_call1_v6 (broadcastInDim S32768x1 ![] bcast_S_S32768x1),
    binary main_call1_v5 main_call1_v6 main_call1_v7 (cmpi .sge),
    unary main_call1_c_1 main_call1_v8 (broadcastInDim S1x1 ![1] bcast_S1_S1x1_1),
    unary main_call1_v8 main_call1_v9 (broadcastInDim S32768x1 ![0, 1] bcast_S1x1_S32768x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S32768x1_S32768_d1 h_S_),
    binary main_arg1 main_call1_v5 main_call1_v13 (fun x i => Host.gather gather_S1024x32_S32768x1_S32768x32_1_0_n_n_0_1_132 x i),
    unary main_call1_v12 main_call1_v14 (broadcastInDim S32768x32 ![0] bcast_S32768_S32768x32_0),
    nullary main_call1_cst (constant S_ .f32 0x7FC00000#32),
    unary main_call1_cst main_call1_v15 (broadcastInDim S32768x32 ![] bcast_S_S32768x32),
    ternary main_call1_v14 main_call1_v13 main_call1_v15 main_v17 select,
    reshape main_v17 main_v18 rfl shapeCasts_S32768x32_S32x32x32x32,
    unary main_v18 main_v19 (transpose S32x32x32x32 [0, 3, 1, 2] · transposes_S32x32x32x32_S32x32x32x32_0_3_1_2),
    binary main_v19 main_arg0 main_v20 subf,
    binary main_v20 main_v20 main_v21 mulf,
    nullary main_cst_2 (constant S_ .f32 0x00000000#32),
    binary main_v21 main_cst_2 main_v22 (fun x v => Host.reduceAdd x v reducesTo_S32x32x32x32_S_d0_1_2_3 h_S_),
    nullary main_cst_3 (constant S_ .f32 0x49800000#32),
    binary main_v22 main_cst_3 main_v23 Host.divf,
    binary main_v19 main_arg0 main_v24 subf,
    binary main_v24 main_v24 main_v25 mulf,
    nullary main_cst_4 (constant S_ .f32 0x00000000#32),
    binary main_v25 main_cst_4 main_v26 (fun x v => Host.reduceAdd x v reducesTo_S32x32x32x32_S_d0_1_2_3 h_S_),
    nullary main_cst_5 (constant S_ .f32 0x49800000#32),
    binary main_v26 main_cst_5 main_v27 Host.divf,
    nullary main_cst_6 (constant S_ .f32 0x3E800000#32),
    binary main_cst_6 main_v23 main_v28 mulf,
    binary main_v27 main_v28 main_v29 addf,
    binary main_v19 main_arg0 main_v30 subf,
    binary main_arg0 main_v30 main_v31 addf ]

/-- The program is these operations in order. -/
theorem main_eq (c : Dev nD) : main (F := F) c = seq ops := by chain_rfl

theorem no_scoped_refs : (Finset.univ.filter fun b : Ref sig .tc => b.isScoped) = ∅ := by decide

theorem no_scoped_sems : (Finset.univ.filter fun s : SemLoc sig => s.isScoped .tc) = ∅ := by decide

theorem ops_sub : (ops : List (HloOp τ sig (Elt F))).Forall fun op => op.bufs ⊆ tcRefs τ sig :=
  ⟨unary_bufs_sub .., reshape_bufs_sub .., binary_bufs_sub .., nullary_bufs_sub .., binary_bufs_sub ..,
    unary_bufs_sub .., binary_bufs_sub .., nullary_bufs_sub .., binary_bufs_sub .., unary_bufs_sub ..,
    unary_bufs_sub .., unary_bufs_sub .., binary_bufs_sub .., unary_bufs_sub .., binary_bufs_sub ..,
    nullary_bufs_sub .., unary_bufs_sub .., binary_bufs_sub .., binary_bufs_sub .., nullary_bufs_sub ..,
    nullary_bufs_sub .., nullary_bufs_sub .., quaternary_bufs_sub .., quaternary_bufs_sub .., nullary_bufs_sub ..,
    unary_bufs_sub .., binary_bufs_sub .., nullary_bufs_sub .., unary_bufs_sub .., binary_bufs_sub ..,
    ternary_bufs_sub .., unary_bufs_sub .., nullary_bufs_sub .., nullary_bufs_sub .., unary_bufs_sub ..,
    binary_bufs_sub .., unary_bufs_sub .., unary_bufs_sub .., binary_bufs_sub .., binary_bufs_sub ..,
    nullary_bufs_sub .., binary_bufs_sub .., binary_bufs_sub .., unary_bufs_sub .., nullary_bufs_sub ..,
    unary_bufs_sub .., ternary_bufs_sub .., reshape_bufs_sub .., unary_bufs_sub .., binary_bufs_sub ..,
    binary_bufs_sub .., nullary_bufs_sub .., binary_bufs_sub .., nullary_bufs_sub .., binary_bufs_sub ..,
    binary_bufs_sub .., binary_bufs_sub .., nullary_bufs_sub .., binary_bufs_sub .., nullary_bufs_sub ..,
    binary_bufs_sub .., nullary_bufs_sub .., binary_bufs_sub .., binary_bufs_sub .., binary_bufs_sub ..,
    binary_bufs_sub ..⟩

/-- Every execution of the reference ends with its two results at the values named above, and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
        = passed (quantised (m ((c.tc : Thread nD τ).loc main_arg0)) (m ((c.tc : Thread nD τ).loc main_arg1)))
            (m ((c.tc : Thread nD τ).loc main_arg0))
      ∧ r.2.mem ((c.tc : Thread nD τ).loc main_v29)
        = loss (quantised (m ((c.tc : Thread nD τ).loc main_arg0)) (m ((c.tc : Thread nD τ).loc main_arg1)))
            (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c main_v31).trans (by after_results_simp; rfl), (h c main_v29).trans (by after_results_simp; rfl),
      (h c main_arg0).trans (by after_results_simp), (h c main_arg1).trans (by after_results_simp)⟩)
    (run_seq no_scoped_refs no_scoped_sems defs main (fun _ => ops) main_eq (fun _ => ops_sub) m ρ)

end Cert.VqReference

end
-- ==== Proof.RefValue.lean ====
module

public import proofs.«01_k».proof.Proof.RefRun
public import proofs.«01_k».proof.Proof.Nearest
public import Idealize.ShloMosaic.Lib.Routing.Ops
public import Idealize.ShloMosaic.Lib.ReduceAll

/-! # The reference's results over the extended reals -/

@[expose] public section

set_option maxRecDepth 16384

noncomputable section

open Idealize.ShloMosaic

namespace Cert.VqReference

open Cert.ReferenceIdeal Cert.ReferenceIdeal.Gen Cert.Vq

/-! ## The nearest position of each row -/

/-- The reducer keeps the lesser of two pairs, by value, then by position. -/
theorem reducer_eq (a b : EReal × BitVec 32) :
    reducer_argmin_f32_i32 (F := Ideal) a b = if key a < key b then a else b := by
  obtain ⟨av, ai⟩ := a
  obtain ⟨bv, bi⟩ := b
  have lt : key (av, ai) < key (bv, bi) ↔ av < bv ∨ av = bv ∧ ai.toInt < bi.toInt := Prod.Lex.lt_iff
  have ne : FloatOps.cmpf (F := Ideal) (φ := .f32) .une av av = 0#1 := by
    show BitVec.ofBool (decide (av ≠ av)) = 0#1
    simp
  have hlt : FloatOps.cmpf (F := Ideal) (φ := .f32) .olt av bv = BitVec.ofBool (decide (av < bv)) := rfl
  have heq : FloatOps.cmpf (F := Ideal) (φ := .f32) .oeq av bv = BitVec.ofBool (decide (av = bv)) := rfl
  have hpos : IntOp.cmpi .slt ai bi = BitVec.ofBool (decide (ai.toInt < bi.toInt)) := rfl
  have or_zero : ∀ x : Bool, IntOp.ori (BitVec.ofBool x) 0#1 = BitVec.ofBool x := by decide
  have or_and : ∀ x y t : Bool, IntOp.ori (BitVec.ofBool x) (IntOp.andi (BitVec.ofBool y) (BitVec.ofBool t))
      = BitVec.ofBool (x || (y && t)) := by decide
  have sel : ∀ {α : Type} (x : Bool) (u v : α), Scalar.select (BitVec.ofBool x) u v = if x then u else v :=
    fun x u v => by cases x <;> rfl
  unfold reducer_argmin_f32_i32
  dsimp only
  rw [ne, hlt, heq, hpos, or_zero, or_and, sel, sel]
  by_cases h1 : av < bv
  · rw [if_pos (lt.mpr (.inl h1))]
    simp [h1]
  · by_cases h2 : av = bv
    · subst h2
      by_cases h3 : ai.toInt < bi.toInt
      · rw [if_pos (lt.mpr (.inr ⟨rfl, h3⟩))]
        simp [h3]
      · rw [if_neg fun h => (lt.mp h).elim h1 fun h => h3 h.2]
        simp [h3]
    · rw [if_neg fun h => (lt.mp h).elim h1 fun h => h2 h.1]
      simp [h1, h2]

/-- The pairs a row's fold runs over are the row's values paired with their companions. -/
theorem mem_row {α β : Type} {n0 n1 : ℕ} (x : (⟨2, ![n0, n1]⟩ : Shape).Idx → α) (y : (⟨2, ![n0, n1]⟩ : Shape).Idx → β)
    (h : (⟨2, ![n0, n1]⟩ : Shape).ReducesTo [1] ⟨1, ![n0]⟩) (n : Fin n0) (p : α × β) :
    p ∈ Host.argReduceFiber x y h (ix1 n) ↔ ∃ k : Fin n1, p = (x (ix2 n k), y (ix2 n k)) := by
  unfold Host.argReduceFiber
  rw [List.mem_map]
  constructor
  · rintro ⟨q, hq, rfl⟩
    have hd := of_decide_eq_true (List.mem_filter.mp hq).2
    obtain ⟨k, hk⟩ := (Shape.ReducesTo.fiber_r2_a1 h (ix1 n) _).mp hd
    exact ⟨k, by rw [← hk]; rfl⟩
  · rintro ⟨k, rfl⟩
    refine ⟨Shape.rowMajor _ (ix2 n k), List.mem_filter.mpr ⟨List.mem_finRange _, decide_eq_true ?_⟩, ?_⟩
    · rw [Equiv.symm_apply_apply]
      exact (Shape.ReducesTo.fiber_r2_a1 h (ix1 n) _).mpr ⟨k, rfl⟩
    · rw [Equiv.symm_apply_apply]

/-- The fold over a row's values and their positions, from the top value and position 0, ends at the first position of
the row's least value. -/
theorem argReduce_first {n0 : ℕ} (d : FVec Ideal (⟨2, ![n0, 1024]⟩ : Shape) .f32) (y : IVec (⟨2, ![n0, 1024]⟩ : Shape) 32)
    (h : (⟨2, ![n0, 1024]⟩ : Shape).ReducesTo [1] ⟨1, ![n0]⟩) {u : Shape} (top : FVec Ideal u .f32) (zero : IVec u 32)
    (hu : 0 < u.numel) (ht : top (Shape.Idx.first hu) = (⊤ : EReal)) (hz : zero (Shape.Idx.first hu) = 0#32) (n : Fin n0)
    (hy : ∀ k : Fin 1024, y (ix2 n k) = BitVec.ofNat 32 k.val) :
    (Host.argReduce (reducer_argmin_f32_i32 (F := Ideal)) d y top zero h hu (ix1 n)).2
      = BitVec.ofNat 32 (first fun k => d (ix2 n k)).val := by
  rw [Ideal.argReduce_eq_reduce2, Host.reduce2_eq_foldl_fiber, ht, hz]
  refine foldl_first _ reducer_eq (fun k => d (ix2 n k)) _ fun p => ?_
  rw [mem_row]
  simp only [hy]

/-- The positions as a function of the row. -/
theorem argmins_fun (d : Vec Ideal S32768x1024 .f32) : argmins (F := Ideal) d = fun j =>
    (Host.argReduce (reducer_argmin_f32_i32 (F := Ideal)) d (iotaInDim S32768x1024 32 1)
      (constant S_ .f32 0x7F800000#32) (constantI S_ 32 0#32) reducesTo_S32768x1024_S32768_d1 h_S_ j).2 :=
  rfl

/-- Each row's position is the first position of its least distance. -/
theorem argmins_at (d : Vec Ideal S32768x1024 .f32) (n : Fin 32768) :
    argmins (F := Ideal) d (ix1 n) = BitVec.ofNat 32 (first fun k => d (ix2 n k)).val :=
  (congrFun (argmins_fun d) (ix1 n)).trans
    (argReduce_first d (iotaInDim S32768x1024 32 1) reducesTo_S32768x1024_S32768_d1 (constant S_ .f32 0x7F800000#32)
      (constantI S_ 32 0#32) h_S_ ofBits_top rfl n fun _ => rfl)

/-! ## The entries taken from the code book -/

/-- A position in the code book is kept as it is. -/
theorem wrapped_at (i : Vec Ideal S32768 .i32) (n : Fin 32768) (u : Fin 1) (k : Fin 1024)
    (hi : i (ix1 n) = BitVec.ofNat 32 k.val) : wrapped (F := Ideal) i (ix2 n u) = BitVec.ofNat 32 k.val := by
  have hn : (BitVec.ofNat 32 k.val).slt 0#32 = false := by
    rw [Bool.eq_false_iff, ne_eq, BitVec.slt_iff_toInt_lt, toInt_position]
    have e : (0#32).toInt = 0 := by decide
    omega
  have hc : IntOp.cmpi .slt (BitVec.ofNat 32 k.val) 0#32 = 0#1 := by
    show BitVec.ofBool (BitVec.slt _ _) = 0#1
    rw [hn]; rfl
  pointwise [wrapped]
  rw [hi, hc]
  rfl

/-- A row whose position lies in the code book is marked as such. -/
theorem inBook_at (i : Vec Ideal S32768x1 .i32) (h : ∀ j, ∃ k : Fin 1024, i j = BitVec.ofNat 32 k.val) (n : Fin 32768) :
    inBook (F := Ideal) i (ix1 n) = 1#1 := by
  unfold inBook
  refine Host.reduce_andi_one _ _ _ _ _ rfl fun j => ?_
  obtain ⟨k, hk⟩ := h j
  have hlo : IntOp.cmpi .sge (BitVec.ofNat 32 k.val) 0#32 = 1#1 := by
    show BitVec.ofBool (BitVec.sle _ _) = 1#1
    rw [BitVec.sle_iff_toInt_le.mpr (by
      rw [toInt_position]; have e : (0#32).toInt = 0 := by decide
      omega)]; rfl
  have hhi : IntOp.cmpi .sle (BitVec.ofNat 32 k.val) 1023#32 = 1#1 := by
    show BitVec.ofBool (BitVec.sle _ _) = 1#1
    rw [BitVec.sle_iff_toInt_le.mpr (by
      rw [toInt_position]; have := k.isLt; have e : (1023#32).toInt = 1023 := by decide
      omega)]; rfl
  idx_vars j
  pointwise
  rw [hk, hlo, hhi]
  rfl

/-- The entry taken for a row whose position lies in the code book. -/
theorem taken_at (w : Vec Ideal S1024x32 .f32) (i : Vec Ideal S32768x1 .i32)
    (h : ∀ j, ∃ k : Fin 1024, i j = BitVec.ofNat 32 k.val) (n : Fin 32768) (c : Fin 32) (k : Fin 1024)
    (hk : i (ix2 n 0) = BitVec.ofNat 32 k.val) : taken (F := Ideal) w i (ix2 n c) = w (ix2 k c) := by
  have hg : Host.gather gather_S1024x32_S32768x1_S32768x32_1_0_n_n_0_1_132 w i (ix2 n c) = w (ix2 k c) := by
    rw [ix2_eq_valueIdx] at hk
    rw [ix2_eq_valueIdx, ix2_eq_valueIdx]
    exact Routing.gather_row _ rfl rfl rfl rfl rfl w i n c k hk (by decide)
  pointwise [taken]
  rw [inBook_at i h, hg]
  rfl

/-! ## The quantised images and the two results -/

theorem rows_at (z : Vec Ideal S32x32x32x32 .f32) (n : Fin 32768) (c : Fin 32) :
    rows (F := Ideal) z (ix2 n c)
      = z (ix4 ⟨n.val / 1024, by omega⟩ c ⟨n.val / 32 % 32, by omega⟩ ⟨n.val % 32, by omega⟩) := by
  pointwise [rows]

/-- The distances are the squared distances of the pixels to the code book's entries. -/
theorem dists_at (x : Vec Ideal S32768x32 .f32) (w : Vec Ideal S1024x32 .f32) (n : Fin 32768) (k : Fin 1024) :
    dists (F := Ideal) x w (ix2 n k) = sqDist (fun c => x (ix2 n c)) (fun k c => w (ix2 k c)) k := by
  pointwise [dists, rowSq, bookSq]
  rfl

/-- The quantised image holds each pixel's nearest code book entry. -/
theorem quantised_at (z : Vec Ideal S32x32x32x32 .f32) (w : Vec Ideal S1024x32 .f32) (b c h v : Fin 32) :
    quantised (F := Ideal) z w (ix4 b c h v) = w (ix2 (nearest z w b h v) c) := by
  have hpos : ∀ n : Fin 32768, argmins (F := Ideal) (dists (F := Ideal) (rows (F := Ideal) z) w) (ix1 n)
      = BitVec.ofNat 32 (nearest z w ⟨n.val / 1024, by omega⟩ ⟨n.val / 32 % 32, by omega⟩ ⟨n.val % 32, by omega⟩).val := by
    intro n
    rw [argmins_at]
    simp only [dists_at, rows_at]
    rfl
  have e0 : (⟨(b.val * 1024 + h.val * 32 + v.val) / 1024, by omega⟩ : Fin 32) = b := Fin.ext (by dsimp only; omega)
  have e1 : (⟨(b.val * 1024 + h.val * 32 + v.val) / 32 % 32, by omega⟩ : Fin 32) = h := Fin.ext (by dsimp only; omega)
  have e2 : (⟨(b.val * 1024 + h.val * 32 + v.val) % 32, by omega⟩ : Fin 32) = v := Fin.ext (by dsimp only; omega)
  pointwise [quantised]
  refine taken_at w _ (fun j => ?_) _ c _ (wrapped_at _ _ _ _ ?_)
  · obtain ⟨n, u, rfl⟩ : ∃ (n : Fin 32768) (u : Fin 1), j = ix2 n u := ⟨j 0, j 1, eq_ix2 j⟩
    exact ⟨_, wrapped_at _ n u _ (hpos n)⟩
  · rw [hpos]
    simp only [e0, e1, e2]

/-- The first result at an index. -/
theorem passed_at (z : Vec Ideal S32x32x32x32 .f32) (w : Vec Ideal S1024x32 .f32) (b c h v : Fin 32) :
    passed (F := Ideal) (quantised (F := Ideal) z w) z (ix4 b c h v) = z (ix4 b c h v) + gap z w b c h v := by
  unfold gap
  rw [← quantised_at z w b c h v]
  pointwise [passed]

/-- A sum over all of an image array's indices, coordinate by coordinate. -/
theorem sum_images (f : S32x32x32x32.Idx → EReal) : ∑ i, f i = ∑ b, ∑ c, ∑ h, ∑ v, f (ix4 b c h v) := by
  have e : ∑ i, f i = ∑ q : Fin 32 × Fin 32 × Fin 32 × Fin 32, f (ix4 q.1 q.2.1 q.2.2.1 q.2.2.2) :=
    Fintype.sum_equiv
      { toFun := fun i => ((i 0, i 1, i 2, i 3) : Fin 32 × Fin 32 × Fin 32 × Fin 32)
        invFun := fun q => ix4 q.1 q.2.1 q.2.2.1 q.2.2.2
        left_inv := fun i => (eq_ix4 i).symm
        right_inv := fun _ => rfl } _ _ fun i => congrArg f (eq_ix4 i)
  rw [e, Fintype.sum_prod_type]
  simp only [Fintype.sum_prod_type]

/-- The mean of the squared gaps. -/
theorem meanSq_at (z : Vec Ideal S32x32x32x32 .f32) (w : Vec Ideal S1024x32 .f32) :
    meanSq (F := Ideal) (quantised (F := Ideal) z w) z ix0 = Ideal.div (sumSq z w) (Ideal.ofBits .f32 0x49800000#32) := by
  have sq : ∀ b c h v, mulf (F := Ideal) (φ := .f32) (subf (quantised (F := Ideal) z w) z)
      (subf (quantised (F := Ideal) z w) z) (ix4 b c h v) = gap z w b c h v * gap z w b c h v := by
    intro b c h v
    unfold gap
    rw [← quantised_at z w b c h v]
    pointwise
  pointwise [meanSq]
  rw [Ideal.hostReduceAdd_total _ (fun b => b.elim0), zero_add, sum_images]
  simp only [sq]
  rfl

/-- The second result at its only index. -/
theorem loss_at (z : Vec Ideal S32x32x32x32 .f32) (w : Vec Ideal S1024x32 .f32) :
    loss (F := Ideal) (quantised (F := Ideal) z w) z ix0
      = Ideal.div (sumSq z w) (Ideal.ofBits .f32 0x49800000#32)
        + Ideal.ofBits .f32 0x3E800000#32 * Ideal.div (sumSq z w) (Ideal.ofBits .f32 0x49800000#32) := by
  rw [← meanSq_at z w]
  pointwise [loss]

end Cert.VqReference

end
-- ==== Proof.Equation.lean ====
module

public import proofs.«01_k».proof.Proof.KernelValue
public import proofs.«01_k».proof.Proof.RefValue

/-! # The kernel's two results are the reference's, over the extended reals -/

@[expose] public section

noncomputable section

open Idealize.ShloMosaic

namespace Cert.Vq

/-- The straight-through values agree. -/
theorem straight_eq (z : Images) (w : Book) :
    shapeCast Cert.KernelIdeal.S32x32x32x32 (VqKernel.straight (F := Ideal) z w)
        Cert.KernelIdeal.Gen.shapeCasts_S32x32x1024_S32x32x32x32
      = VqReference.passed (F := Ideal) (VqReference.quantised (F := Ideal) z w) z := by
  funext i
  obtain ⟨b, c, h, v, rfl⟩ : ∃ b c h v : Fin 32, i = ix4 b c h v := ⟨i 0, i 1, i 2, i 3, eq_ix4 i⟩
  exact (VqKernel.straight_at z w b c h v).trans (VqReference.passed_at z w b c h v).symm

/-- The losses agree. -/
theorem loss_eq (z : Images) (w : Book) :
    VqKernel.total (F := Ideal) (VqKernel.tally (F := Ideal) z w 31 (by decide))
      = VqReference.loss (F := Ideal) (VqReference.quantised (F := Ideal) z w) z := by
  funext i
  obtain rfl : i = ix0 := funext fun a => a.elim0
  refine (VqKernel.total_at _).trans (Eq.trans ?_ (VqReference.loss_at z w).symm)
  rw [VqKernel.tally_all]

end Cert.Vq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Lib.Quiescent
public import Idealize.ShloMosaic.Adequacy
public import Idealize.ShloMosaic.Init

/-! # The certificate

The kernel leaves its arguments as they were, as do its idealization and the reference; the idealization is the kernel's
own text; and over the extended reals the idealization and the reference end with the same two results from the same
arguments. -/

@[expose] public section

noncomputable section

namespace Cert.Proof

open Idealize.ShloMosaic Idealize.SL.Sem

/-- The reference runs, leaves its arguments as they were, and ends with every semaphore at zero. -/
theorem frame_reference : Cert.quiescent_ReferenceIdeal (hReferenceIdeal := Cert.ReferenceIdeal.Gen.facts) := fun m ρ _ =>
  (θ_run Cert.ReferenceIdeal.defs _ _).mono
    (fun r h => ⟨fun c => ⟨(h c).2.2.1, (h c).2.2.2⟩, Idealize.ShloMosaic.sem_eq_zero_of_no_sems (by decide) r.2⟩)
    (Cert.VqReference.run m ρ)

/-- From the same arguments the kernel's idealization and the reference end with the same two results. -/
theorem results_agree : Cert.algebraic_KernelIdeal_ReferenceIdeal (hKernelIdeal := Cert.KernelIdeal.Gen.facts)
    (hReferenceIdeal := Cert.ReferenceIdeal.Gen.facts) := by
  intro m g m' g' _ hargs
  refine ⟨_, _, Cert.VqKernel.run m g,
    (θ_run Cert.ReferenceIdeal.defs _ _).mono (fun r h c => ⟨(h c).1.trans ?_, (h c).2.1.trans ?_, (h c).2.2⟩)
      (Cert.VqReference.run m' g')⟩
  · rw [(hargs c).1, (hargs c).2]
    exact (Cert.Vq.straight_eq _ _).symm
  · rw [(hargs c).1, (hargs c).2]
    exact (Cert.Vq.loss_eq _ _).symm

/-- All claims together. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial,
    results_agree⟩

end Cert.Proof

end
